-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v3_0)) (v1 : (c : Dev Cert.Kernel.nD) → Buf (Elt Bits) ((c.tc : Thread Cert.Kernel.nD Cert.Kernel.τ).loc Cert.Kernel.main_v3_1)) (v2 : (c : Dev Cert.Kernel.nD) → Buf (Elt Bits) ((c.tc : Thread Cert.Kernel.nD Cert.Kernel.τ).loc Cert.Kernel.main_v3_2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3_0) = v0 c
          ∧ r.2.mem ((c.tc : Thread Cert.Kernel.nD Cert.Kernel.τ).loc Cert.Kernel.main_v3_1) = v1 c
          ∧ r.2.mem ((c.tc : Thread Cert.Kernel.nD Cert.Kernel.τ).loc Cert.Kernel.main_v3_2) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_v2) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S_ : Shape := ⟨0, ![]⟩
abbrev S64x512 : Shape := ⟨2, ![64, 512]⟩
abbrev S256x512 : Shape := ⟨2, ![256, 512]⟩

class Facts : Prop where

variable [Facts]

def fn {F : FTy → Type} [FloatOps F] (main_arg0 : IVec S_ 32) (main_arg1 : IVec S_ 32) (main_arg2 : IVec S_ 32) (main_arg3 : FVec F S64x512 .f32) (main_arg4 : FVec F S256x512 .f32) : IVec S_ 1 :=
  let main_c : IVec S_ 32 := constantI S_ 32 0#32
  let main_v0 : IVec S_ 1 := cmpi .sge main_arg0 main_c
  let main_c_0 : IVec S_ 32 := constantI S_ 32 64#32
  let main_v1 : IVec S_ 1 := cmpi .slt main_arg0 main_c_0
  let main_v2 : IVec S_ 1 := andi main_v0 main_v1
  let main_c_1 : IVec S_ 32 := constantI S_ 32 0#32
  let main_v3 : IVec S_ 1 := cmpi .sge main_arg1 main_c_1
  let main_v4 : IVec S_ 1 := andi main_v2 main_v3
  let main_c_2 : IVec S_ 32 := constantI S_ 32 256#32
  let main_v5 : IVec S_ 1 := cmpi .slt main_arg1 main_c_2
  let main_v6 : IVec S_ 1 := andi main_v4 main_v5
  let main_c_3 : IVec S_ 32 := constantI S_ 32 0#32
  let main_v7 : IVec S_ 1 := cmpi .sge main_arg2 main_c_3
  let main_v8 : IVec S_ 1 := andi main_v6 main_v7
  let main_c_4 : IVec S_ 32 := constantI S_ 32 64#32
  let main_v9 : IVec S_ 1 := cmpi .slt main_arg2 main_c_4
  let main_v10 : IVec S_ 1 := andi main_v8 main_v9
  main_v10
-- ==== Kernel.lean ====
abbrev S_ : Shape := ⟨0, ![]⟩
abbrev S64x512 : Shape := ⟨2, ![64, 512]⟩
abbrev S256x512 : Shape := ⟨2, ![256, 512]⟩
abbrev S1 : Shape := ⟨1, ![1]⟩
abbrev S512 : Shape := ⟨1, ![512]⟩
abbrev S1x512 : Shape := ⟨2, ![1, 512]⟩

abbrev nBuf : Table → Nat
  | .hbm => 11
  | .local .scScalar .smem => 3
  | _ => 0

abbrev bufTy : (tb : Table) → Fin (nBuf tb) → BufTy
  | .hbm, ⟨0, _⟩ => ⟨S_, .i32⟩
  | .hbm, ⟨1, _⟩ => ⟨S_, .i32⟩
  | .hbm, ⟨2, _⟩ => ⟨S_, .i32⟩
  | .hbm, ⟨3, _⟩ => ⟨S64x512, .f32⟩
  | .hbm, ⟨4, _⟩ => ⟨S256x512, .f32⟩
  | .hbm, ⟨5, _⟩ => ⟨S1, .i32⟩
  | .hbm, ⟨6, _⟩ => ⟨S1, .i32⟩
  | .hbm, ⟨7, _⟩ => ⟨S1, .i32⟩
  | .hbm, ⟨8, _⟩ => ⟨S512, .f32⟩
  | .hbm, ⟨9, _⟩ => ⟨S512, .f32⟩
  | .hbm, ⟨10, _⟩ => ⟨S512, .f32⟩
  | .local .scScalar .smem, ⟨0, _⟩ => ⟨S1, .i32⟩
  | .local .scScalar .smem, ⟨1, _⟩ => ⟨S1, .i32⟩
  | .local .scScalar .smem, ⟨2, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v0_scs : Ref sig .scScalar := ⟨.hbm, 5, rfl⟩
abbrev main_v1_scs : Ref sig .scScalar := ⟨.hbm, 6, rfl⟩
abbrev main_v2_scs : Ref sig .scScalar := ⟨.hbm, 7, rfl⟩
abbrev main_arg3_scs : Ref sig .scScalar := ⟨.hbm, 3, rfl⟩
abbrev main_arg4_scs : Ref sig .scScalar := ⟨.hbm, 4, rfl⟩
abbrev main_v3_0_scs : Ref sig .scScalar := ⟨.hbm, 8, rfl⟩
abbrev main_v3_1_scs : Ref sig .scScalar := ⟨.hbm, 9, rfl⟩
abbrev main_v3_2_scs : Ref sig .scScalar := ⟨.hbm, 10, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  ![v1.toNat, 0]

def k0_off2 (v5 : BitVec 32) : Fin 2 → Nat :=
  let c0_i32_2 : BitVec 32 := 0#32
  ![v5.toNat, 0]

def k0_off3 (v9 : BitVec 32) : Fin 2 → Nat :=
  let c0_i32_4 : BitVec 32 := 0#32
  ![v9.toNat, 0]

def k0_chk3 (v9 : BitVec 32) : Prop :=
  (∀ a, (k0_off3 v9) a + S1x512.size a ≤ S64x512.size a)
theorem k0_off3_inb : ∀ (v9 : BitVec 32) (k0_hw3 : k0_chk3 v9), ∀ a, (k0_off3 v9) a + S1x512.size a ≤ S64x512.size a := fun v9 k0_hw3 => k0_hw3

def k0_off4 (v1 : BitVec 32) : Fin 2 → Nat :=
  let c0_i32_5 : BitVec 32 := 0#32
  ![v1.toNat, 0]

def k0_chk1 (v1 : BitVec 32) : Prop :=
  (∀ a, (k0_off1 v1) a + S1x512.size a ≤ S64x512.size a) ∧
  (∀ a, (k0_off4 v1) a + S1x512.size a ≤ S64x512.size a)
theorem k0_off1_inb : ∀ (v1 : BitVec 32) (k0_hw1 : k0_chk1 v1), ∀ a, (k0_off1 v1) a + S1x512.size a ≤ S64x512.size a := fun v1 k0_hw1 => k0_hw1.1
theorem k0_off4_inb : ∀ (v1 : BitVec 32) (k0_hw1 : k0_chk1 v1), ∀ a, (k0_off4 v1) a + S1x512.size a ≤ S64x512.size a := fun v1 k0_hw1 => k0_hw1.2

def k0_off5 (v5 : BitVec 32) : Fin 2 → Nat :=
  let c0_i32_6 : BitVec 32 := 0#32
  ![v5.toNat, 0]

def k0_chk2 (v5 : BitVec 32) : Prop :=
  (∀ a, (k0_off2 v5) a + S1x512.size a ≤ S256x512.size a) ∧
  (∀ a, (k0_off5 v5) a + S1x512.size a ≤ S256x512.size a)
theorem k0_off2_inb : ∀ (v5 : BitVec 32) (k0_hw2 : k0_chk2 v5), ∀ a, (k0_off2 v5) a + S1x512.size a ≤ S256x512.size a := fun v5 k0_hw2 => k0_hw2.1
theorem k0_off5_inb : ∀ (v5 : BitVec 32) (k0_hw2 : k0_chk2 v5), ∀ a, (k0_off5 v5) a + S1x512.size a ≤ S256x512.size a := fun v5 k0_hw2 => k0_hw2.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S_ : Shape := ⟨0, ![]⟩
abbrev S64x512 : Shape := ⟨2, ![64, 512]⟩
abbrev S256x512 : Shape := ⟨2, ![256, 512]⟩
abbrev S1 : Shape := ⟨1, ![1]⟩
abbrev S512 : Shape := ⟨1, ![512]⟩

abbrev nBuf : Space → Nat
  | .hbm => 62
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S_, .i32⟩
  | .hbm, ⟨3, _⟩ => ⟨S64x512, .f32⟩
  | .hbm, ⟨4, _⟩ => ⟨S256x512, .f32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1, .i1⟩
  | .hbm, ⟨16, _⟩ => ⟨S1, .i1⟩
  | .hbm, ⟨17, _⟩ => ⟨S_, .i1⟩
  | .hbm, ⟨18, _⟩ => ⟨S_, .i1⟩
  | .hbm, ⟨19, _⟩ => ⟨S512, .f32⟩
  | .hbm, ⟨20, _⟩ => ⟨S512, .i1⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i1⟩
  | .hbm, ⟨34, _⟩ => ⟨S1, .i1⟩
  | .hbm, ⟨35, _⟩ => ⟨S1, .i1⟩
  | .hbm, ⟨36, _⟩ => ⟨S_, .i1⟩
  | .hbm, ⟨37, _⟩ => ⟨S_, .i1⟩
  | .hbm, ⟨38, _⟩ => ⟨S512, .f32⟩
  | .hbm, ⟨39, _⟩ => ⟨S512, .i1⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S1, .i1⟩
  | .hbm, ⟨53, _⟩ => ⟨S1, .i1⟩
  | .hbm, ⟨54, _⟩ => ⟨S1, .i1⟩
  | .hbm, ⟨55, _⟩ => ⟨S_, .i1⟩
  | .hbm, ⟨56, _⟩ => ⟨S_, .i1⟩
  | .hbm, ⟨57, _⟩ => ⟨S512, .f32⟩
  | .hbm, ⟨58, _⟩ => ⟨S512, .i1⟩
  | .hbm, ⟨59, _⟩ => ⟨S_, .f32⟩
  | .hbm, ⟨60, _⟩ => ⟨S512, .f32⟩
  | .hbm, ⟨61, _⟩ => ⟨S512, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_c_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_1 : Ref sig .tc := ⟨.hbm, 11, rfl⟩
abbrev main_call0_c_2 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_3 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_v0 : Ref sig .tc := ⟨.hbm, 23, rfl⟩
abbrev main_call1_c : Ref sig .tc := ⟨.hbm, 24, rfl⟩
abbrev main_call1_v0 : Ref sig .tc := ⟨.hbm, 25, rfl⟩
abbrev main_call1_c_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_c_1 : Ref sig .tc := ⟨.hbm, 30, rfl⟩
abbrev main_call1_c_2 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_c_3 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_cst : Ref sig .tc := ⟨.hbm, 40, rfl⟩
abbrev main_call1_v11 : Ref sig .tc := ⟨.hbm, 41, rfl⟩
abbrev main_v1 : Ref sig .tc := ⟨.hbm, 42, rfl⟩
abbrev main_call2_c : Ref sig .tc := ⟨.hbm, 43, rfl⟩
abbrev main_call2_v0 : Ref sig .tc := ⟨.hbm, 44, rfl⟩
abbrev main_call2_c_0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_c_1 : Ref sig .tc := ⟨.hbm, 49, rfl⟩
abbrev main_call2_c_2 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_c_3 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_cst : Ref sig .tc := ⟨.hbm, 59, rfl⟩
abbrev main_call2_v11 : Ref sig .tc := ⟨.hbm, 60, rfl⟩
abbrev main_v2 : Ref sig .tc := ⟨.hbm, 61, rfl⟩

abbrev nD : Nat := 1
abbrev τ : Topo := Topo.v7x

variable {F : FTy → Type} [FloatOps F]
-- ==== Proof.Rows.lean ====
/-
  Rows of a table: the row a word names, which is the value every claim of this certificate speaks of.
-/
module

public import proofs.«01_k».proof.KernelIdeal
public import Idealize.ShloMosaic.Lib.ValueIdx

@[expose] public section

noncomputable section

namespace Cert.Proof.Lookup

open Cert.KernelIdeal Idealize.ShloMosaic

variable {F : FTy → Type}

/-- The one word of a scalar array. -/
def word (s : IVec S_ 32) : BitVec 32 := s fun a => a.elim0

/-- Row `w` of the node table (the word reduced into the table, which moves no word that names a row). -/
def nodeRow (t : FVec F S64x512 .f32) (w : BitVec 32) : FVec F S512 .f32 :=
  fun x => t (ValueIdx.ix2 ⟨w.toNat % 64, Nat.mod_lt _ (by decide)⟩ (x 0))

/-- Row `w` of the edge table. -/
def edgeRow (t : FVec F S256x512 .f32) (w : BitVec 32) : FVec F S512 .f32 :=
  fun x => t (ValueIdx.ix2 ⟨w.toNat % 256, Nat.mod_lt _ (by decide)⟩ (x 0))

end Cert.Proof.Lookup

end
-- ==== Proof.Launch.lean ====
/-
  The set-up of the three-row lookup: the program as the launch theorem sees it, the resource algebra, the arrays
  by name, what the call hands the sequencer, and what the sequencer hands back (its three results at definite rows).
-/
module

public import proofs.«01_k».proof.Defs
public import Idealize.ShloMosaic.Lib.SparseCore.Quiescent
public import Idealize.ShloMosaic.Lib.StableHlo.Run
public import Idealize.ShloMosaic.Lib.Pipeline.Kit
public import proofs.«01_k».proof.Proof.Rows
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library is the left factor; the transfers' counters are found by instance in the right. -/
abbrev EH : Emb UH (MT nD τ sig (HIx 1) (Elt F) ℕ UU ℕ) := embL

/-! ## The launch memory and the arrays -/

variable (m : (ℓ : Loc nD τ sig) → Buf (Elt F) ℓ)

/-- Device `d`'s arrays: the three scalar arguments and the two tables, -/
abbrev srcLoc (d : Dev nD) : Loc nD τ sig := (SparseCore.T d).loc main_arg0
abbrev edgeLoc (d : Dev nD) : Loc nD τ sig := (SparseCore.T d).loc main_arg1
abbrev dstLoc (d : Dev nD) : Loc nD τ sig := (SparseCore.T d).loc main_arg2
abbrev nodeTab (d : Dev nD) : Loc nD τ sig := (SparseCore.T d).loc main_arg3
abbrev edgeTab (d : Dev nD) : Loc nD τ sig := (SparseCore.T d).loc main_arg4
/-- the three scalars reshaped to one word each, -/
abbrev src1Loc (d : Dev nD) : Loc nD τ sig := (SparseCore.T d).loc main_v0
abbrev edge1Loc (d : Dev nD) : Loc nD τ sig := (SparseCore.T d).loc main_v1
abbrev dst1Loc (d : Dev nD) : Loc nD τ sig := (SparseCore.T d).loc main_v2
/-- and the three results. -/
abbrev srcRow (d : Dev nD) : Loc nD τ sig := (SparseCore.T d).loc main_v3_0
abbrev edgeRowL (d : Dev nD) : Loc nD τ sig := (SparseCore.T d).loc main_v3_1
abbrev dstRow (d : Dev nD) : Loc nD τ sig := (SparseCore.T d).loc main_v3_2

/-- The three words device `d` is called with, -/
def srcW (d : Dev nD) : BitVec 32 := word (m (srcLoc d))
def edgeW (d : Dev nD) : BitVec 32 := word (m (edgeLoc d))
def dstW (d : Dev nD) : BitVec 32 := word (m (dstLoc d))

/-- and the three rows they name. -/
def srcVal (d : Dev nD) : Buf (Elt F) (srcRow d) := nodeRow (m (nodeTab d)) (srcW m d)
def edgeVal (d : Dev nD) : Buf (Elt F) (edgeRowL d) := edgeRow (m (edgeTab d)) (edgeW m d)
def dstVal (d : Dev nD) : Buf (Elt F) (dstRow d) := nodeRow (m (nodeTab d)) (dstW m d)

/-- Every device's words name rows of their tables: what the precondition gives. -/
def InRange : Prop := ∀ d : Dev nD, (srcW m d).toNat < 64 ∧ (edgeW m d).toNat < 256 ∧ (dstW m d).toNat < 64

/-- A one-word array at the word `w`. -/
def at1 (w : BitVec 32) : IVec S1 32 := fun _ => w

/-- What the kernel reads: the three one-word arrays at their words, the two tables at their launch contents. -/
def ins (d : Dev nD) : sProp 𝕄 :=
  iprop((src1Loc d ↦{fullShare} (at1 (srcW m d) : Buf (Elt F) (src1Loc d)))
    ∗ (edge1Loc d ↦{fullShare} (at1 (edgeW m d) : Buf (Elt F) (edge1Loc d)))
    ∗ (dst1Loc d ↦{fullShare} (at1 (dstW m d) : Buf (Elt F) (dst1Loc d)))
    ∗ (nodeTab d ↦{fullShare} m (nodeTab d)) ∗ (edgeTab d ↦{fullShare} m (edgeTab d)))

/-- The three results, at whatever they hold; -/
def outs (d : Dev nD) : sProp 𝕄 :=
  iprop((∃ f, srcRow d ↦{fullShare} f) ∗ (∃ f, edgeRowL d ↦{fullShare} f) ∗ ∃ f, dstRow d ↦{fullShare} f)

/-- the three results at the rows. -/
def rows (d : Dev nD) : sProp 𝕄 :=
  iprop((srcRow d ↦{fullShare} srcVal m d) ∗ (edgeRowL d ↦{fullShare} edgeVal m d) ∗ dstRow d ↦{fullShare} dstVal m d)

instance ins_storable (d : Dev nD) : BI.Storable (upEmb : UEmb _ 𝕄) (ins m d) := by unfold ins; infer_instance
instance outs_storable (d : Dev nD) : BI.Storable (upEmb : UEmb _ 𝕄) (outs (F := F) d) := by unfold outs; infer_instance
instance rows_storable (d : Dev nD) : BI.Storable (upEmb : UEmb _ 𝕄) (rows m d) := by unfold rows; infer_instance

variable [FloatOps F]

/-- The call hands its one sequencer the inputs and the results' arrays; it gets the inputs back and the rows. -/
def P : (K (F := F)).Pay (nD := nD) (Val := Elt F) (Name := ℕ) (U := UU) where
  st := fun _ d _ => iprop(ins m d ∗ outs d)
  dn := fun _ d _ => iprop(ins m d ∗ rows m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.Lookup

end
-- ==== Proof.Body.lean ====
/-
  The kernel's body on the sequencer: three words fetched into scalar memory, three rows copied, each copy waited for on
  its own semaphore. Two of the row copies read the node table at once, so its hypothesis is held in two half shares.
-/
module

public import proofs.«01_k».proof.Proof.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The sequencer's own semaphores and buffers -/

section Own

variable (d : Dev nD) (c : Fin τ.nSC)

/-- DMA semaphore `k` of the sequencer, as a cell. -/
abbrev cell (k : Fin 6) : GSem nD τ sig := (S d c, .dma (k : DmaSem sig))

theorem cell_mem (k : Fin 6) : cell d c k ∈ ownCells (S d c) :=
  mem_ownCells.mpr ⟨rfl, (show ∀ s : DmaSem sig, (SemLoc.dma s : SemLoc sig).isScoped .scScalar = true by decide) _⟩

/-- The six cells at zero, as the body names them. -/
abbrev cells0 : sProp 𝕄 :=
  iprop(semVal (S d c, SemLoc.dma cc0_scratch3.sem) 0 ∗ semVal (S d c, SemLoc.dma cc0_scratch4.sem) 0
    ∗ semVal (S d c, SemLoc.dma cc0_scratch5.sem) 0 ∗ semVal (S d c, SemLoc.dma cc0_scratch6.sem) 0
    ∗ semVal (S d c, SemLoc.dma cc0_scratch7.sem) 0 ∗ semVal (S d c, SemLoc.dma cc0_scratch8.sem) 0)

/-- The sequencer's semaphores at zero are the six the body names and the rest. -/
theorem ownSems0_S :
    (ownSems0 (S d c) : sProp 𝕄)
      = iprop(cells0 d c ∗ bigSep ((ownCells (S d c)) \ Finset.univ.image (cell d c)) fun g => semVal g 0) := by
  unfold SparseCore.Cfg.ownSems0
  rw [SparseCore.bigSep_sdiff_split' (t := Finset.univ.image (cell d c)) (Finset.image_subset_iff.mpr fun k _ => cell_mem d c k),
    SparseCore.bigSep_image_of_injOn (f := cell d c) (fun a _ b _ h => SemLoc.dma.inj (congrArg (fun g : GSem nD τ sig => g.2) h))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The sequencer's other buffers: what stays aside of the three words of scalar memory. -/
abbrev restBufs : sProp 𝕄 :=
  bigSep ((((ownRefs (τ := τ) (.scScalar c)).erase ((Proc.scScalar c).devRef cc0_scratch0)).erase ((Proc.scScalar c).devRef cc0_scratch1)).erase
    ((Proc.scScalar c).devRef cc0_scratch2)) fun b => iprop(∃ f, ((d, b) : Loc nD τ sig) ↦{fullShare} f)

/-- The sequencer's buffers are its three words of scalar memory, at some contents each, and the rest. -/
theorem ownBufs_S :
    (ownBufs (S d c) : sProp 𝕄)
      = iprop((∃ f, (Memref.whole cc0_scratch0).view.loc (S d c) ↦{fullShare} f) ∗ (∃ f, (Memref.whole cc0_scratch1).view.loc (S d c) ↦{fullShare} f)
          ∗ (∃ f, (Memref.whole cc0_scratch2).view.loc (S d c) ↦{fullShare} f) ∗ restBufs d c) := by
  have mem (b : Ref sig .scScalar) (hb : ((Proc.scScalar c).devRef b).owner = .proc (.scScalar c)) :
      (Proc.scScalar c).devRef b ∈ ownRefs (τ := τ) (.scScalar c) := SparseCore.Cfg.mem_ownRefs_of_owner hb
  have ne {a b : Ref sig .scScalar} (h : a ≠ b) : (Proc.scScalar (τ := τ) c).devRef a ≠ (Proc.scScalar c).devRef b :=
    fun e => h (Proc.devRef_injective _ e)
  unfold SparseCore.Cfg.ownBufs
  refine (SparseCore.bigSep_erase' (mem cc0_scratch0 rfl)).trans ?_
  rw [SparseCore.bigSep_erase' (Finset.mem_erase.mpr ⟨ne (show (cc0_scratch1 : Ref sig .scScalar) ≠ cc0_scratch0 by decide), mem cc0_scratch1 rfl⟩),
    SparseCore.bigSep_erase' (Finset.mem_erase.mpr ⟨ne (show (cc0_scratch2 : Ref sig .scScalar) ≠ cc0_scratch1 by decide),
      Finset.mem_erase.mpr ⟨ne (show (cc0_scratch2 : Ref sig .scScalar) ≠ cc0_scratch0 by decide), mem cc0_scratch2 rfl⟩⟩)]

end Own

/-! ## The side conditions the body assumes of the words it has read -/

theorem chk1 {w : BitVec 32} (h : w.toNat < 64) : k0_chk1 w := by
  constructor <;> intro a <;> fin_cases a <;> simp [k0_off1, k0_off4] <;> omega
theorem chk2 {w : BitVec 32} (h : w.toNat < 256) : k0_chk2 w := by
  constructor <;> intro a <;> fin_cases a <;> simp [k0_off2, k0_off5] <;> omega
theorem chk3 {w : BitVec 32} (h : w.toNat < 64) : k0_chk3 w := by
  intro a; fin_cases a <;> simp [k0_off3] <;> omega

/-! ## A row of a table, read through the window a copy names -/

/-- Row `w` of the node table, read through the one-row window at row `w`, the unit axis dropped. -/
theorem read_nodeRow (t : FVec F S64x512 .f32) {w : BitVec 32} (hw : w.toNat < 64) {off : Fin 2 → Nat} (ho : off = ![w.toNat, 0])
    (hb) (hs) (hq) :
    View.read (Elt F) (((Memref.whole main_arg3_scs).slice (Rect.unit (s := S64x512) off S1x512.size hb) hs).squeeze S512 hq).view t
      = nodeRow t w := by
  subst ho
  funext x
  show t ((Rect.unit (s := S64x512) ![w.toNat, 0] S1x512.size hb).emb (Shape.reshapeEquiv hq.numel_eq x)) = t _
  have hx : Shape.reshapeEquiv hq.numel_eq x = Fin.cons ⟨0, Nat.one_pos⟩ x := Shape.reshapeEquiv_cons_one hq.numel_eq x
  rw [hx]
  congr 1
  funext a
  match a with
  | 0 => exact Fin.ext (by show w.toNat + 1 * 0 = w.toNat % 64; rw [Nat.mod_eq_of_lt hw]; omega)
  | 1 => exact Fin.ext (by show 0 + 1 * (x 0).val = (x 0).val; omega)

/-- Row `w` of the edge table, likewise. -/
theorem read_edgeRow (t : FVec F S256x512 .f32) {w : BitVec 32} (hw : w.toNat < 256) {off : Fin 2 → Nat} (ho : off = ![w.toNat, 0])
    (hb) (hs) (hq) :
    View.read (Elt F) (((Memref.whole main_arg4_scs).slice (Rect.unit (s := S256x512) off S1x512.size hb) hs).squeeze S512 hq).view t
      = edgeRow t w := by
  subst ho
  funext x
  show t ((Rect.unit (s := S256x512) ![w.toNat, 0] S1x512.size hb).emb (Shape.reshapeEquiv hq.numel_eq x)) = t _
  have hx : Shape.reshapeEquiv hq.numel_eq x = Fin.cons ⟨0, Nat.one_pos⟩ x := Shape.reshapeEquiv_cons_one hq.numel_eq x
  rw [hx]
  congr 1
  funext a
  match a with
  | 0 => exact Fin.ext (by show w.toNat + 1 * 0 = w.toNat % 256; rw [Nat.mod_eq_of_lt hw]; omega)
  | 1 => exact Fin.ext (by show 0 + 1 * (x 0).val = (x 0).val; omega)

variable [FloatOps F]

section Body

variable (d : Dev nD) (L : grid0.Coords)

/-- The SparseCore at grid coordinates `L`. -/
abbrev cL : Fin τ.nSC := (L 0).castLE hcore0

/-- The body on the sequencer at coordinates `L`, from the three index arrays, the two tables, the three results and the
    sequencer's own memory and semaphores: it ends with the inputs as they were, each result at the row its word names, the
    semaphores at zero again and every wait it adds a wait on the launch's own channel. -/
theorem run (hin : InRange m) (O : CellTallies nD τ sig (HIx 1)) (W : Waits sig (HIx 1))
    (f0 : Buf (Elt F) (srcRow d)) (f1 : Buf (Elt F) (edgeRowL d)) (f2 : Buf (Elt F) (dstRow d))
    (g0 : Buf (Elt F) ((Memref.whole cc0_scratch0).view.loc (S d (cL L)))) (g1 : Buf (Elt F) ((Memref.whole cc0_scratch1).view.loc (S d (cL L))))
    (g2 : Buf (Elt F) ((Memref.whole cc0_scratch2).view.loc (S d (cL L)))) :
    iprop(Transfers.MayWaits (S d (cL L)) (none : HIx 1) O
        ∗ ((Memref.whole main_v0_scs).view.loc (S d (cL L)) ↦{fullShare} at1 (srcW m d)) ∗ ((Memref.whole main_v1_scs).view.loc (S d (cL L)) ↦{fullShare} at1 (edgeW m d))
        ∗ ((Memref.whole main_v2_scs).view.loc (S d (cL L)) ↦{fullShare} at1 (dstW m d))
        ∗ ((Memref.whole main_arg3_scs).view.loc (S d (cL L)) ↦{fullShare.left} m (nodeTab d)) ∗ ((Memref.whole main_arg3_scs).view.loc (S d (cL L)) ↦{fullShare.right} m (nodeTab d))
        ∗ ((Memref.whole main_arg4_scs).view.loc (S d (cL L)) ↦{fullShare} m (edgeTab d))
        ∗ ((Memref.whole main_v3_0_scs).view.loc (S d (cL L)) ↦{fullShare} f0) ∗ ((Memref.whole main_v3_1_scs).view.loc (S d (cL L)) ↦{fullShare} f1)
        ∗ ((Memref.whole main_v3_2_scs).view.loc (S d (cL L)) ↦{fullShare} f2)
        ∗ ((Memref.whole cc0_scratch0).view.loc (S d (cL L)) ↦{fullShare} g0) ∗ ((Memref.whole cc0_scratch1).view.loc (S d (cL L)) ↦{fullShare} g1)
        ∗ ((Memref.whole cc0_scratch2).view.loc (S d (cL L)) ↦{fullShare} g2)
        ∗ cells0 d (cL L) ∗ owes (S d (cL L)) O W)
      ⊢ wp frame (wpE (defs₀ (F := F)) 𝒱₀ (S d (cL L)) none) Set.univ
          (cc0__lookup L (Memref.whole main_v0_scs) (Memref.isWhole_whole _) (Memref.whole main_v1_scs) (Memref.isWhole_whole _) (Memref.whole main_v2_scs) (Memref.isWhole_whole _)
            (Memref.whole main_arg3_scs) (Memref.isWhole_whole _) (Memref.whole main_arg4_scs) (Memref.isWhole_whole _) (Memref.whole main_v3_0_scs) (Memref.isWhole_whole _) (Memref.whole main_v3_1_scs) (Memref.isWhole_whole _)
            (Memref.whole main_v3_2_scs) (Memref.isWhole_whole _) (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8)
          fun _ => iprop(((Memref.whole main_v0_scs).view.loc (S d (cL L)) ↦{fullShare} at1 (srcW m d)) ∗ ((Memref.whole main_v1_scs).view.loc (S d (cL L)) ↦{fullShare} at1 (edgeW m d))
            ∗ ((Memref.whole main_v2_scs).view.loc (S d (cL L)) ↦{fullShare} at1 (dstW m d))
            ∗ ((Memref.whole main_arg3_scs).view.loc (S d (cL L)) ↦{fullShare.left} m (nodeTab d)) ∗ ((Memref.whole main_arg3_scs).view.loc (S d (cL L)) ↦{fullShare.right} m (nodeTab d))
            ∗ ((Memref.whole main_arg4_scs).view.loc (S d (cL L)) ↦{fullShare} m (edgeTab d))
            ∗ ((Memref.whole main_v3_0_scs).view.loc (S d (cL L)) ↦{fullShare} srcVal m d) ∗ ((Memref.whole main_v3_1_scs).view.loc (S d (cL L)) ↦{fullShare} edgeVal m d)
            ∗ ((Memref.whole main_v3_2_scs).view.loc (S d (cL L)) ↦{fullShare} dstVal m d)
            ∗ (∃ g, (Memref.whole cc0_scratch0).view.loc (S d (cL L)) ↦{fullShare} g) ∗ (∃ g, (Memref.whole cc0_scratch1).view.loc (S d (cL L)) ↦{fullShare} g)
            ∗ (∃ g, (Memref.whole cc0_scratch2).view.loc (S d (cL L)) ↦{fullShare} g)
            ∗ cells0 d (cL L) ∗ ∃ W', ⌜∀ p ∈ W', p ∈ W ∨ p.2 = none⌝ ∗ owes (S d (cL L)) O W') := by
  iintro ⟨#Hmw, Hi0, Hi1, Hi2, Hn, Hn', He, Ho0, Ho1, Ho2, Hs0, Hs1, Hs2, ⟨Hc0, Hc1, Hc2, Hc3, Hc4, Hc5⟩, HO⟩
  have hk0 : k0_chk1 (srcW m d) := chk1 (hin d).1
  have hk1 : k0_chk2 (edgeW m d) := chk2 (hin d).2.1
  have hk2 : k0_chk3 (dstW m d) := chk3 (hin d).2.2
  sl_unfold [cc0__lookup]
  sl_exec
  have e0 : run.sl.dma1 m d L g0 hk0 = srcVal m d := read_nodeRow _ (hin d).1 rfl _ _ _
  have e1 : run.sl.dma2 m d L g1 hk1 = edgeVal m d := read_edgeRow _ (hin d).2.1 rfl _ _ _
  have e2 : run.sl.dma3 m d L g2 hk2 = dstVal m d := read_nodeRow _ (hin d).2.2 rfl _ _ _
  rw [View.write_whole_univ main_v3_0_scs f0, View.write_whole_univ main_v3_1_scs f1, View.write_whole_univ main_v3_2_scs f2, e0, e1, e2]
  sl_step
  isplitl [Hi0]
  · iexact Hi0
  isplitl [Hi1]
  · iexact Hi1
  isplitl [Hi2]
  · iexact Hi2
  isplitl [Hn]
  · iexact Hn
  isplitl [Hn']
  · iexact Hn'
  isplitl [He]
  · iexact He
  isplitl [Ho0]
  · iexact Ho0
  isplitl [Ho1]
  · iexact Ho1
  isplitl [Ho2]
  · iexact Ho2
  isplitl [Hs0]
  · iexists _; iexact Hs0
  isplitl [Hs1]
  · iexists _; iexact Hs1
  isplitl [Hs2]
  · iexists _; iexact Hs2
  isplitl [Hc0 Hc1 Hc2 Hc3 Hc4 Hc5]
  · isplitl [Hc0]
    · iexact Hc0
    isplitl [Hc1]
    · iexact Hc1
    isplitl [Hc2]
    · iexact Hc2
    isplitl [Hc3]
    · iexact Hc3
    isplitl [Hc4]
    · iexact Hc4
    iexact Hc5
  iexists insert (SemLoc.dma cc0_scratch8.sem, none) (insert (SemLoc.dma cc0_scratch7.sem, none) (insert (SemLoc.dma cc0_scratch6.sem, none)
    (insert (SemLoc.dma cc0_scratch5.sem, none) (insert (SemLoc.dma cc0_scratch4.sem, none) (insert (SemLoc.dma cc0_scratch3.sem, none) W)))))
  isplitr [HO]
  · ipureintro
    intro p hp
    simp only [Finset.mem_insert] at hp
    rcases hp with rfl | rfl | rfl | rfl | rfl | rfl | hp <;> first | exact .inr rfl | exact .inl hp
  iexact HO

/-- The same from what the call hands the sequencer: the inputs and the results' arrays whole, its scoped memory and
    semaphores. The node table is split in two for the body and joined after it. -/
theorem body (hin : InRange m) (O : CellTallies nD τ sig (HIx 1)) (W : Waits sig (HIx 1)) (hO : ∀ g, O g none = 0) :
    iprop(levAts (K (F := F)).L (K (F := F)).lev ∗ emp ∗ (ins m d ∗ outs d)
        ∗ scopedBufs (S d (cL L)) ∗ scopedSems0 (S d (cL L)) ∗ owes (S d (cL L)) O W)
      ⊢ wp frame (wpE (defs₀ (F := F)) 𝒱₀ (S d (cL L)) none) Set.univ
          (cc0__lookup L (Memref.whole main_v0_scs) (Memref.isWhole_whole _) (Memref.whole main_v1_scs) (Memref.isWhole_whole _)
            (Memref.whole main_v2_scs) (Memref.isWhole_whole _) (Memref.whole main_arg3_scs) (Memref.isWhole_whole _)
            (Memref.whole main_arg4_scs) (Memref.isWhole_whole _) (Memref.whole main_v3_0_scs) (Memref.isWhole_whole _)
            (Memref.whole main_v3_1_scs) (Memref.isWhole_whole _) (Memref.whole main_v3_2_scs) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scratch7 cc0_scratch8)
          fun _ => iprop((ins m d ∗ rows m d) ∗ scopedBufs (S d (cL L)) ∗ scopedSems0 (S d (cL L))
            ∗ ∃ W', ⌜∀ p ∈ W', p ∈ W ∨ p.2 = none ∨ p.2 = some (0 : Fin 1)⌝ ∗ owes (S d (cL L)) O W') := by
  unfold ins outs rows
  iintro ⟨#Hlv, -, ⟨⟨Hi0, Hi1, Hi2, Hn, He⟩, ⟨%f0, Ho0⟩, ⟨%f1, Ho1⟩, %f2, Ho2⟩, Hsb, Hss, HO⟩
  ihave #Hmw := ((K (F := F)).mayWaits_none (thr := S d (cL L)) hO) $$ Hlv
  ihave Hss' := (SparseCore.Cfg.scopedSems0_S_elim (Val := Elt F) d (cL L)) $$ Hss
  icases Hss' with ⟨Hown, Hsubs⟩
  ihave Hown' := (Entails.of_eq (ownSems0_S (F := F) d (cL L))) $$ Hown
  icases Hown' with ⟨Hcells, Hrest⟩
  ihave Hsb' := ((K (F := F)).scopedBufs_S_elim facts d (cL L)) $$ Hsb
  icases Hsb' with ⟨Hob, Hsubb⟩
  ihave Hob' := (Entails.of_eq (ownBufs_S (F := F) d (cL L))) $$ Hob
  icases Hob' with ⟨⟨%g0, Hs0⟩, ⟨%g1, Hs1⟩, ⟨%g2, Hs2⟩, Hrb⟩
  ihave Hn' := (pointsTo_share (PosShare.mem_left_op_right fullShare)).1 $$ Hn
  icases Hn' with ⟨Hn, Hn'⟩
  iapply (wp_wand_r Idealize.ShloMosaic.frame (wpE (defs₀ (F := F)) 𝒱₀ (S d (cL L)) none) Set.univ)
  isplitl [Hi0 Hi1 Hi2 Hn Hn' He Ho0 Ho1 Ho2 Hs0 Hs1 Hs2 Hcells HO]
  · iapply (run m d L hin O W f0 f1 f2 g0 g1 g2)
    isplitr; · iexact Hmw
    isplitl [Hi0]; · iexact Hi0
    isplitl [Hi1]; · iexact Hi1
    isplitl [Hi2]; · iexact Hi2
    isplitl [Hn]; · iexact Hn
    isplitl [Hn']; · iexact Hn'
    isplitl [He]; · iexact He
    isplitl [Ho0]; · iexact Ho0
    isplitl [Ho1]; · iexact Ho1
    isplitl [Ho2]; · iexact Ho2
    isplitl [Hs0]; · iexact Hs0
    isplitl [Hs1]; · iexact Hs1
    isplitl [Hs2]; · iexact Hs2
    isplitl [Hcells]; · iexact Hcells
    iexact HO
  iintro %_ ⟨Hi0, Hi1, Hi2, Hn, Hn', He, Ho0, Ho1, Ho2, Hs0, Hs1, Hs2, Hcells, %W', %hW', HO⟩
  ihave Hnn := (pointsTo_share (PosShare.mem_left_op_right fullShare)).2 $$ [Hn Hn']
  · isplitl [Hn]; · iexact Hn
    iexact Hn'
  isplitl [Hi0 Hi1 Hi2 Hnn He Ho0 Ho1 Ho2]
  · isplitl [Hi0 Hi1 Hi2 Hnn He]
    · isplitl [Hi0]; · iexact Hi0
      isplitl [Hi1]; · iexact Hi1
      isplitl [Hi2]; · iexact Hi2
      isplitl [Hnn]; · iexact Hnn
      iexact He
    isplitl [Ho0]; · iexact Ho0
    isplitl [Ho1]; · iexact Ho1
    iexact Ho2
  isplitl [Hs0 Hs1 Hs2 Hrb Hsubb]
  · iapply ((K (F := F)).scopedBufs_S_intro facts d (cL L))
    isplitr [Hsubb]
    · rw [ownBufs_S]
      isplitl [Hs0]; · iexact Hs0
      isplitl [Hs1]; · iexact Hs1
      isplitl [Hs2]; · iexact Hs2
      iexact Hrb
    iexact Hsubb
  isplitl [Hcells Hrest Hsubs]
  · iapply (SparseCore.Cfg.scopedSems0_S_intro (Val := Elt F) d (cL L))
    isplitr [Hsubs]
    · rw [ownSems0_S]
      isplitl [Hcells]; · iexact Hcells
      iexact Hrest
    iexact Hsubs
  iexists W'
  isplitr [HO]
  · ipureintro; exact fun p hp => (hW' p hp).imp_right .inl
  iexact HO

end Body

/-! ## The launch theorem's obligation -/

/-- The grid's coordinates at core `c`, as the body table writes them. -/
def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__lookup (coordsS c) (Memref.whole main_v0_scs) (Memref.isWhole_whole _)
            (Memref.whole main_v1_scs) (Memref.isWhole_whole _)
            (Memref.whole main_v2_scs) (Memref.isWhole_whole _) (Memref.whole main_arg3_scs) (Memref.isWhole_whole _)
            (Memref.whole main_arg4_scs) (Memref.isWhole_whole _) (Memref.whole main_v3_0_scs) (Memref.isWhole_whole _)
            (Memref.whole main_v3_1_scs) (Memref.isWhole_whole _) (Memref.whole main_v3_2_scs) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scratch7 cc0_scratch8) ⟨⟩ c := rfl

/-- What the launch theorem asks of the one call: its sequencer runs the body from the call's payload to its results. -/
theorem scalarObl (hin : InRange m) : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m d (coordsS ⟨_, hc⟩) hin O W hO

end Cert.Proof.Lookup

end
-- ==== Proof.Main.lean ====
/-
  The kernel's program run from the launch: the three scalars reshaped to one word each on the TensorCore, the one call of
  the SparseCore kernel, and what the final memory then holds.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds, nothing of the kernel's own -/

def u₀ : UU := (initOf (K (F := F)).hsCells (K (F := F)).hsToks, 1)

theorem emps {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The TensorCore's eleven arrays, and the three reshapes -/

section Arrays

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev a4 : DevRef τ sig := Proc.devRef .tc (main_arg4 : Ref sig .tc)
abbrev w0 : DevRef τ sig := Proc.devRef .tc (main_v0 : Ref sig .tc)
abbrev w1 : DevRef τ sig := Proc.devRef .tc (main_v1 : Ref sig .tc)
abbrev w2 : DevRef τ sig := Proc.devRef .tc (main_v2 : Ref sig .tc)
abbrev r0 : DevRef τ sig := Proc.devRef .tc (main_v3_0 : Ref sig .tc)
abbrev r1 : DevRef τ sig := Proc.devRef .tc (main_v3_1 : Ref sig .tc)
abbrev r2 : DevRef τ sig := Proc.devRef .tc (main_v3_2 : Ref sig .tc)

abbrev opSrc : HloOp τ sig (Elt F) := StableHlo.reshape main_arg0 main_v0 (rfl : (.i32 : EltTy) = .i32) shapeCasts_S_S1
abbrev opEdge : HloOp τ sig (Elt F) := StableHlo.reshape main_arg1 main_v1 (rfl : (.i32 : EltTy) = .i32) shapeCasts_S_S1
abbrev opDst : HloOp τ sig (Elt F) := StableHlo.reshape main_arg2 main_v2 (rfl : (.i32 : EltTy) = .i32) shapeCasts_S_S1

/-- The TensorCore's arrays: five arguments, three one-word arrays, three results. -/
abbrev arrs : Finset (DevRef τ sig) := {a0, a1, a2, a3, a4, w0, w1, w2, r0, r1, r2}

variable (d : Dev nD)

/-- Those arrays, each whole, at the contents a valuation gives them. -/
theorem held_arrs (W : Valuation τ sig (Elt F)) :
    (held (T d) arrs W : sProp 𝕄)
      = iprop((srcLoc d ↦{fullShare} W a0) ∗ (edgeLoc d ↦{fullShare} W a1) ∗ (dstLoc d ↦{fullShare} W a2)
          ∗ (nodeTab d ↦{fullShare} W a3) ∗ (edgeTab d ↦{fullShare} W a4)
          ∗ (src1Loc d ↦{fullShare} W w0) ∗ (edge1Loc d ↦{fullShare} W w1) ∗ (dst1Loc d ↦{fullShare} W w2)
          ∗ (srcRow d ↦{fullShare} W r0) ∗ (edgeRowL d ↦{fullShare} W r1) ∗ dstRow d ↦{fullShare} W r2) := by
  unfold held arrs
  iterate 10 rw [SparseCore.bigSep_insert' (by decide)]
  rw [bigSep_singleton]

/-- The contents at launch, -/
def V0 : Valuation τ sig (Elt F) := fun b => m (d, b)
/-- and after the three reshapes. -/
def V3 : Valuation τ sig (Elt F) := (opDst (F := F)).result ((opEdge (F := F)).result ((opSrc (F := F)).result (V0 m d)))

theorem unscoped_held : (unscopedBufs d (fun b => m ((SparseCore.T d).loc b)) : sProp 𝕄) = held (T d) arrs (V0 m d) := by
  rw [held_arrs]
  unfold unscopedBufs
  rw [show (Finset.univ.filter fun b : Ref sig .tc => ¬ b.isScoped)
    = {main_arg0, main_arg1, main_arg2, main_arg3, main_arg4, main_v0, main_v1, main_v2, main_v3_0, main_v3_1, main_v3_2} by decide]
  iterate 10 rw [SparseCore.bigSep_insert' (by decide)]
  rw [bigSep_singleton]
  rfl

/-- A scalar reshaped to one element holds its word there. -/
theorem shapeCast_at1 (s : IVec S_ 32) : (fun i => shapeCast S1 s shapeCasts_S_S1 i) = at1 (word s) :=
  funext fun i => congrArg s (funext fun a => a.elim0)

/-- After the reshapes the arguments are as launched and the one-word arrays hold the three words. -/
theorem held_V3 :
    (held (T d) arrs ((opDst (F := F)).result ((opEdge (F := F)).result ((opSrc (F := F)).result (V0 m d)))) : sProp 𝕄)
      = iprop((srcLoc d ↦{fullShare} m (srcLoc d)) ∗ (edgeLoc d ↦{fullShare} m (edgeLoc d)) ∗ (dstLoc d ↦{fullShare} m (dstLoc d))
          ∗ (nodeTab d ↦{fullShare} m (nodeTab d)) ∗ (edgeTab d ↦{fullShare} m (edgeTab d))
          ∗ (src1Loc d ↦{fullShare} (at1 (srcW m d) : Buf (Elt F) (src1Loc d)))
          ∗ (edge1Loc d ↦{fullShare} (at1 (edgeW m d) : Buf (Elt F) (edge1Loc d)))
          ∗ (dst1Loc d ↦{fullShare} (at1 (dstW m d) : Buf (Elt F) (dst1Loc d)))
          ∗ (srcRow d ↦{fullShare} m (srcRow d)) ∗ (edgeRowL d ↦{fullShare} m (edgeRowL d)) ∗ dstRow d ↦{fullShare} m (dstRow d)) := by
  show held (T d) arrs (V3 m d) = _
  rw [held_arrs]
  have e0 : V3 m d w0 = at1 (srcW m d) := by
    unfold V3
    rw [StableHlo.reshape_result_ne (h := by decide), StableHlo.reshape_result_ne (h := by decide), StableHlo.reshape_result]
    exact shapeCast_at1 _
  have e1 : V3 m d w1 = at1 (edgeW m d) := by
    unfold V3
    rw [StableHlo.reshape_result_ne (h := by decide), StableHlo.reshape_result, StableHlo.reshape_result_ne (h := by decide)]
    exact shapeCast_at1 _
  have e2 : V3 m d w2 = at1 (dstW m d) := by
    unfold V3
    rw [StableHlo.reshape_result, StableHlo.reshape_result_ne (h := by decide), StableHlo.reshape_result_ne (h := by decide)]
    exact shapeCast_at1 _
  have ea (r : Ref sig .tc) (h0 : r ≠ main_v0) (h1 : r ≠ main_v1) (h2 : r ≠ main_v2) : V3 m d (Proc.devRef .tc r) = m (d, Proc.devRef .tc r) := by
    unfold V3
    rw [StableHlo.reshape_result_ne (h := h2), StableHlo.reshape_result_ne (h := h1), StableHlo.reshape_result_ne (h := h0)]
    rfl
  rw [e0, e1, e2, ea main_arg0 (by decide) (by decide) (by decide), ea main_arg1 (by decide) (by decide) (by decide),
    ea main_arg2 (by decide) (by decide) (by decide), ea main_arg3 (by decide) (by decide) (by decide),
    ea main_arg4 (by decide) (by decide) (by decide), ea main_v3_0 (by decide) (by decide) (by decide),
    ea main_v3_1 (by decide) (by decide) (by decide), ea main_v3_2 (by decide) (by decide) (by decide)]

end Arrays

/-! ## The TensorCore's program -/

variable [FloatOps F]

theorem st0_eq (d : Dev nD) : (bigSep Finset.univ fun c : Fin ((K (F := F)).nCore 0) => (P m).st 0 d c) = iprop(ins m d ∗ outs d) :=
  bigSep_univ_of_subsingleton (0 : Fin 1)
theorem dn0_eq (d : Dev nD) : (bigSep Finset.univ fun c : Fin ((K (F := F)).nCore 0) => (P m).dn 0 d c) = iprop(ins m d ∗ rows m d) :=
  bigSep_univ_of_subsingleton (0 : Fin 1)

/-- What a device's run leaves: the five arguments as launched, the three results at their rows. -/
abbrev FIN (d : Dev nD) : sProp 𝕄 :=
  iprop((srcLoc d ↦{fullShare} m (srcLoc d)) ∗ (edgeLoc d ↦{fullShare} m (edgeLoc d)) ∗ (dstLoc d ↦{fullShare} m (dstLoc d))
    ∗ (nodeTab d ↦{fullShare} m (nodeTab d)) ∗ (edgeTab d ↦{fullShare} m (edgeTab d))
    ∗ (srcRow d ↦{fullShare} srcVal m d) ∗ (edgeRowL d ↦{fullShare} edgeVal m d) ∗ dstRow d ↦{fullShare} dstVal m d)

/-- The TensorCore of device `d`: three reshapes over the arrays held whole, then the call, from the one-word arrays, the
    tables and the results' arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opSrc) (S := arrs)
    (show ({a0, w0} : Finset (DevRef τ sig)) ⊆ arrs by decide) (V := V0 m d)) $$ [Hb Hheld]
  · isplitl [Hb] <;> iassumption
  iintro ⟨Hb, Hheld⟩
  rw [wp_ret]; imodintro
  iapply (wp_hlo_within 𝒱 (SparseCore.T d) none Set.univ (op := opEdge) (S := arrs)
    (show ({a1, w1} : Finset (DevRef τ sig)) ⊆ arrs by decide) (V := (opSrc (F := F)).result (V0 m d))) $$ [Hb Hheld]
  · isplitl [Hb] <;> iassumption
  iintro ⟨Hb, Hheld⟩
  rw [wp_ret]; imodintro
  iapply (wp_hlo_within 𝒱 (SparseCore.T d) none Set.univ (op := opDst) (S := arrs)
    (show ({a2, w2} : Finset (DevRef τ sig)) ⊆ arrs by decide) (V := (opEdge (F := F)).result ((opSrc (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Ha0, Ha1, Ha2, Ha3, Ha4, Hw0, Hw1, Hw2, Hr0, Hr1, Hr2⟩
  iapply ((K (F := F)).wp_run (D (F := F)) 𝒱 (EH := EH) (P := P m) κ d 0) $$ [Hst Hb Hts Ha0 Ha1 Ha2 Ha3 Ha4 Hw0 Hw1 Hw2 Hr0 Hr1 Hr2]
  isplitr; · iexact Hctx
  isplitl [Hst]; · iexact Hst
  isplitl [Ha3 Ha4 Hw0 Hw1 Hw2 Hr0 Hr1 Hr2]
  · rw [st0_eq]
    unfold ins outs
    isplitl [Ha3 Ha4 Hw0 Hw1 Hw2]
    · isplitl [Hw0]; · iexact Hw0
      isplitl [Hw1]; · iexact Hw1
      isplitl [Hw2]; · iexact Hw2
      isplitl [Ha3]; · iexact Ha3
      iexact Ha4
    isplitl [Hr0]; · iexists _; iexact Hr0
    isplitl [Hr1]; · iexists _; iexact Hr1
    iexists _; iexact Hr2
  iintro ⟨Hst, Hdn⟩
  ihave Hdn' := (Entails.of_eq (dn0_eq m d)) $$ Hdn
  unfold ins rows
  icases Hdn' with ⟨⟨-, -, -, Ha3, Ha4⟩, Hr0, Hr1, Hr2⟩
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Hr0]; · iexact Hr0
    isplitl [Hr1]; · iexact Hr1
    iexact Hr2
  isplitl [Hb] <;> iassumption

/-! ## The final memory -/

/-- What the claims read of device `d`'s final memory: the results at their rows, the arguments as launched. -/
def fq (d : Dev nD) (s' : Phys nD τ sig (Elt F)) : Prop :=
  (s'.mem.mem (srcRow d) = srcVal m d ∧ s'.mem.mem (edgeRowL d) = edgeVal m d ∧ s'.mem.mem (dstRow d) = dstVal m d)
    ∧ s'.mem.mem (srcLoc d) = m (srcLoc d) ∧ s'.mem.mem (edgeLoc d) = m (edgeLoc d) ∧ s'.mem.mem (dstLoc d) = m (dstLoc d)
    ∧ s'.mem.mem (nodeTab d) = m (nodeTab d) ∧ s'.mem.mem (edgeTab d) = m (edgeTab d)

/-- An array held whole at `f` is at `f` in the memory; the memory's assertion is kept. -/
theorem reads (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5, H6, H7⟩, HSI⟩
  ihave H := (reads s' _ _) $$ [H0 HSI]
  · isplitl [H0] <;> iassumption
  icases H with ⟨%h0, HSI⟩
  ihave H := (reads s' _ _) $$ [H1 HSI]
  · isplitl [H1] <;> iassumption
  icases H with ⟨%h1, HSI⟩
  ihave H := (reads s' _ _) $$ [H2 HSI]
  · isplitl [H2] <;> iassumption
  icases H with ⟨%h2, HSI⟩
  ihave H := (reads s' _ _) $$ [H3 HSI]
  · isplitl [H3] <;> iassumption
  icases H with ⟨%h3, HSI⟩
  ihave H := (reads s' _ _) $$ [H4 HSI]
  · isplitl [H4] <;> iassumption
  icases H with ⟨%h4, HSI⟩
  ihave H := (reads s' _ _) $$ [H5 HSI]
  · isplitl [H5] <;> iassumption
  icases H with ⟨%h5, HSI⟩
  ihave H := (reads s' _ _) $$ [H6 HSI]
  · isplitl [H6] <;> iassumption
  icases H with ⟨%h6, HSI⟩
  ihave H := (reads s' _ _) $$ [H7 HSI]
  · isplitl [H7] <;> iassumption
  icases H with ⟨%h7, HSI⟩
  ipureintro
  exact ⟨⟨h5, h6, h7⟩, h0, h1, h2, h3, h4⟩

/-- The final state the claims speak of: on every device the results at their rows and the arguments as launched, and
    every semaphore at zero. -/
def QC : PUnit × MemSt nD τ sig (Elt F) → Prop := fun r =>
  (∀ c : Dev nD,
    (r.2.mem (srcRow c) = srcVal m c ∧ r.2.mem (edgeRowL c) = edgeVal m c ∧ r.2.mem (dstRow c) = dstVal m c)
      ∧ r.2.mem (srcLoc c) = m (srcLoc c) ∧ r.2.mem (edgeLoc c) = m (edgeLoc c) ∧ r.2.mem (dstLoc c) = m (dstLoc c)
      ∧ r.2.mem (nodeTab c) = m (nodeTab c) ∧ r.2.mem (edgeTab c) = m (edgeTab c))
    ∧ r.2.sem = fun _ => 0

/-- The program's run, at any float values: from words that name rows of their tables, every weakly fair execution ends,
    nothing faulting, in such a state. -/
theorem run_main [∀ e, Nonempty (Elt F e)] (hin : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hin)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Values.lean ====
/-
  The values: the words the precondition allows name rows of their tables, and the reference's lookup of such a word (the
  wrapped index, the gather, the bounds test that would put a NaN) is the table's row.
-/
module

public import proofs.«01_k».proof.Proof.Rows
public import proofs.«01_k».proof.Pre_in_range
public import Idealize.ShloMosaic.Lib.ReduceAll
public import Idealize.ShloMosaic.Lib.StableHlo.Predicate
public import Idealize.ShloMosaic.Lib.ValueIdx

@[expose] public section

noncomputable section

namespace Cert.Proof.Lookup

open Idealize.ShloMosaic Idealize.ShloMosaic.ValueIdx

/-! ## The precondition -/

/-- A word that is at least 0 and below `n`, both read signed, is below `n` read unsigned. -/
theorem toNat_lt_of_signed {w : BitVec 32} {n : Nat} (h0 : 0 ≤ w.toInt) (h1 : w.toInt < n) : w.toNat < n := by
  have h := BitVec.toInt_eq_toNat_cond w
  have hw := w.isLt
  split at h <;> omega

/-- The precondition says that the first and third words are below 64 and the second is below 256. -/
theorem range_of_pre {F : FTy → Type} [FloatOps F] [Cert.Pre_in_range.Facts] {s e t : IVec Cert.KernelIdeal.S_ 32}
    {n : FVec F Cert.KernelIdeal.S64x512 .f32} {r : FVec F Cert.KernelIdeal.S256x512 .f32}
    (h : Cert.Pre_in_range.fn (F := F) s e t n r = fun _ => 1#1) :
    (word s).toNat < 64 ∧ (word e).toNat < 256 ∧ (word t).toNat < 64 := by
  have h := congrFun h fun a => a.elim0
  obtain ⟨h, t1⟩ := IntOp.andi_eq_one.1 h
  obtain ⟨h, t0⟩ := IntOp.andi_eq_one.1 h
  obtain ⟨h, e1⟩ := IntOp.andi_eq_one.1 h
  obtain ⟨h, e0⟩ := IntOp.andi_eq_one.1 h
  obtain ⟨s0, s1⟩ := IntOp.andi_eq_one.1 h
  exact ⟨toNat_lt_of_signed (IntOp.cmpi_sge.1 s0) (IntOp.cmpi_slt.1 s1), toNat_lt_of_signed (IntOp.cmpi_sge.1 e0) (IntOp.cmpi_slt.1 e1),
    toNat_lt_of_signed (IntOp.cmpi_sge.1 t0) (IntOp.cmpi_slt.1 t1)⟩

/-! ## The reference's lookup of one row -/

section Take

variable {α : Type} {N : Nat}

/-- The dimension numbers of a lookup of one row of an `[N, 512]` table by a one-word index array. -/
abbrev rowDims (N : Nat) (wf : GatherDims.WF ⟨2, ![N, 512]⟩ ⟨1, ![1]⟩ ⟨1, ![512]⟩ [0] [0] [] [0] [] 0 ![1, 512]) :
    GatherDims ⟨2, ![N, 512]⟩ ⟨1, ![1]⟩ ⟨1, ![512]⟩ where
  offsetDims := [0]
  collapsedSliceDims := [0]
  operandBatchingDims := []
  startIndicesBatchingDims := []
  startIndexMap := [0]
  indexVectorDim := 0
  sliceSizes := ![1, 512]
  wf := wf

/-- Such a gather at the word `w`, a row of the table, reads row `w`. -/
theorem gather_row (wf) (x : (⟨2, ![N, 512]⟩ : Shape).Idx → α) {w : BitVec 32} (hw : w.toNat < N) (hN : N < 2 ^ 31) :
    Host.gather (rowDims N wf) x (fun _ => w : IVec ⟨1, ![1]⟩ 32)
      = fun j => x (ix2 ⟨w.toNat % N, Nat.mod_lt _ (by omega)⟩ (j 0)) := by
  funext j
  unfold Host.gather
  congr 1
  funext a
  refine Fin.ext ?_
  show (rowDims N wf).start j (fun _ => w) a + (rowDims N wf).batchCoord j a + (rowDims N wf).offCoord j a = _
  rw [GatherDims.batchCoord_eq_zero _ _ _ List.not_mem_nil]
  match a with
  | 0 =>
    rw [GatherDims.offCoord_eq_zero _ _ _ fun h => ((GatherDims.mem_sKept _ _).mp h).1 (List.mem_singleton.mpr rfl)]
    unfold GatherDims.start
    rw [dif_pos (show (0 : Fin 2) ∈ (rowDims N wf).startIndexMap from List.mem_singleton.mpr rfl)]
    show min w.toInt.toNat (N - 1) + 0 + 0 = w.toNat % N
    rw [StableHlo.Predicate.toInt_eq_toNat_of_lt (by omega), Int.toNat_natCast, Nat.mod_eq_of_lt hw]
    omega
  | 1 =>
    have h0 : (rowDims N wf).start j (fun _ => w) 1 = 0 := by
      unfold GatherDims.start
      rw [dif_neg (show (1 : Fin 2) ∉ (rowDims N wf).startIndexMap from fun h => absurd (List.mem_singleton.1 h) (show ¬(1 : Fin 2) = 0 by decide))]
    rw [h0]
    unfold GatherDims.offCoord
    rw [dif_pos ((GatherDims.mem_sKept _ _).mpr ⟨fun h => absurd (List.mem_singleton.1 h) (show ¬(1 : Fin 2) = 0 by decide), List.not_mem_nil⟩)]
    rw [Nat.zero_add]
    rfl

/-- THE LOOKUP as the reference computes it: the word, wrapped if negative, gathered, the result replaced where the wrapped
    word is out of the table. At a word that names a row it is the row. -/
theorem take_row (wf) (x : (⟨2, ![N, 512]⟩ : Shape).Idx → α) (s : IVec Cert.KernelIdeal.S_ 32) (hs : (word s).toNat < N) (hN : N < 2 ^ 31)
    (add top : BitVec 32) (htop : top.toNat = N - 1) (b1 : (⟨0, ![]⟩ : Shape).BroadcastsInDim ⟨1, ![1]⟩ ![])
    (b512 : (⟨0, ![]⟩ : Shape).BroadcastsInDim ⟨1, ![512]⟩ ![]) (hr : (⟨1, ![1]⟩ : Shape).ReducesTo [0] ⟨0, ![]⟩)
    (hu : 0 < (⟨0, ![]⟩ : Shape).numel) (y : (⟨1, ![512]⟩ : Shape).Idx → α) (hN' : 0 < N := by omega) :
    select (broadcastInDim ⟨1, ![512]⟩ ![] b512 (Host.reduce IntOp.andi
          (andi (cmpi .sge (broadcastInDim ⟨1, ![1]⟩ ![] b1 (select (cmpi .slt s (constantI ⟨0, ![]⟩ 32 0#32)) (addi s (constantI ⟨0, ![]⟩ 32 add)) s))
              (broadcastInDim ⟨1, ![1]⟩ ![] b1 (constantI ⟨0, ![]⟩ 32 0#32)))
            (cmpi .sle (broadcastInDim ⟨1, ![1]⟩ ![] b1 (select (cmpi .slt s (constantI ⟨0, ![]⟩ 32 0#32)) (addi s (constantI ⟨0, ![]⟩ 32 add)) s))
              (constantI ⟨1, ![1]⟩ 32 top)))
          (constantI ⟨0, ![]⟩ 1 1#1) hr hu))
        (Host.gather (rowDims N wf) x
          (broadcastInDim ⟨1, ![1]⟩ ![] b1 (select (cmpi .slt s (constantI ⟨0, ![]⟩ 32 0#32)) (addi s (constantI ⟨0, ![]⟩ 32 add)) s))) y
      = fun j => x (ix2 ⟨(word s).toNat % N, Nat.mod_lt _ hN'⟩ (j 0)) := by
  have hi : (word s).toInt = (word s).toNat := StableHlo.Predicate.toInt_eq_toNat_of_lt (by omega)
  have hB : broadcastInDim ⟨1, ![1]⟩ ![] b1 (select (cmpi .slt s (constantI ⟨0, ![]⟩ 32 0#32)) (addi s (constantI ⟨0, ![]⟩ 32 add)) s)
      = fun _ => word s := by
    funext j
    have e0 : ∀ i, s i = word s := fun i => congrArg s (funext fun a => a.elim0)
    show Scalar.select (IntOp.cmpi .slt (s _) 0#32) _ (s _) = word s
    have hlt : IntOp.cmpi .slt (word s) 0#32 = 0#1 := eq_zero_of_ne_one fun h => by
      have h := IntOp.cmpi_slt.1 h
      rw [hi, show (0#32 : BitVec 32).toInt = 0 from rfl] at h
      omega
    rw [e0, hlt, select_zero]
  rw [hB, gather_row wf x hs hN]
  funext j
  rw [select_apply]
  have hc : broadcastInDim ⟨1, ![512]⟩ ![] b512 (Host.reduce IntOp.andi
          (andi (cmpi .sge (fun _ => word s) (broadcastInDim ⟨1, ![1]⟩ ![] b1 (constantI ⟨0, ![]⟩ 32 0#32)))
            (cmpi .sle (fun _ => word s) (constantI ⟨1, ![1]⟩ 32 top))) (constantI ⟨0, ![]⟩ 1 1#1) hr hu) j = 1#1 := by
    refine Host.reduce_andi_one _ _ hr hu _ rfl fun i => IntOp.andi_eq_one.2 ⟨IntOp.cmpi_sge.2 ?_, IntOp.cmpi_sle.2 ?_⟩
    · show (0#32 : BitVec 32).toInt ≤ (word s).toInt
      rw [hi]; simp
    · show (word s).toInt ≤ top.toInt
      rw [hi, StableHlo.Predicate.toInt_eq_toNat_of_lt (by omega), htop]; omega
  rw [hc, select_one]

end Take

end Cert.Proof.Lookup

end
-- ==== Proof.lean ====
/-
  The claim: the frames, the value claim over the extended reals, and the bit-exact one, read off the kernel's one run
  (`Lookup.run_main`) and the reference's one run (`looked_up`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import proofs.«01_k».proof.Proof.Gen.Reference.Run
public import proofs.«01_k».proof.Proof.Main
public import proofs.«01_k».proof.Proof.Values
public import Idealize.ShloMosaic.Adequacy
public import Idealize.ShloMosaic.Init

@[expose] public section

noncomputable section

namespace Cert.Proof

open Idealize.ShloMosaic Idealize.SL.Sem Cert.Proof.Lookup

/-! ## The frames -/

/-- Indices that name rows, as the precondition states it of the kernel's memory, for any float values. -/
theorem in_range {F : FTy → Type} [FloatOps F] (m : (ℓ : Loc Cert.KernelIdeal.nD Cert.KernelIdeal.τ Cert.KernelIdeal.sig) → Buf (Elt F) ℓ)
    (h : ∀ c, Cert.Pre_in_range.fn (F := F) (m (srcLoc c)) (m (edgeLoc c)) (m (dstLoc c)) (m (nodeTab c)) (m (edgeTab c)) = fun _ => 1#1) :
    InRange m :=
  fun d => range_of_pre (h d)

/-- The kernel at machine floats ends with its arguments as they were and its semaphores at zero. -/
theorem frame_kernel : Cert.quiescent_Kernel := fun m ρ hp =>
  (θ_run Cert.KernelIdeal.defs _ _).mono (fun _ h => ⟨fun c => (h.1 c).2, h.2⟩) (run_main (F := Bits) m ρ (in_range m hp))

/-- The same of the kernel over the extended reals. -/
theorem frame_kernelIdeal : Cert.quiescent_KernelIdeal := fun m ρ hp =>
  (θ_run Cert.KernelIdeal.defs _ _).mono (fun _ h => ⟨fun c => (h.1 c).2, h.2⟩) (run_main (F := Ideal) m ρ (in_range m hp))

/-- The reference over the extended reals ends with its arguments as they were, from any memory. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- So it does from a memory in the precondition. -/
theorem frame_referenceIdeal_pre : Cert.quiescent_ReferenceIdeal_pre_in_range := fun m ρ _ => frame_referenceIdeal m ρ trivial

/-- The reference at machine floats likewise. -/
theorem frame_reference : Cert.quiescent_Reference := fun m ρ _ =>
  (θ_run Cert.Reference.defs _ _).mono (fun r h => ⟨fun c => (h c).2.2.2, sem_eq_zero_of_no_sems (by decide) r.2⟩)
    (Cert.Reference.Value.run (F := Bits) m ρ)

/-! ## The values -/

section Reference

open Cert.Reference

variable {F : FTy → Type} [FloatOps F]

/-- The reference's run, for any float values: from indices that name rows, its results are those rows of the tables, and its
    arguments are as they were. -/
theorem looked_up (m : (ℓ : Loc nD τ sig) → Buf (Elt F) ℓ) (ρ : Dev nD → PrngReg)
    (hin : ∀ c : Dev nD, (word (m ((c.tc : Thread nD τ).loc main_arg0))).toNat < 64 ∧ (word (m ((c.tc : Thread nD τ).loc main_arg1))).toNat < 256
      ∧ (word (m ((c.tc : Thread nD τ).loc main_arg2))).toNat < 64) :
    θ_run (defs (F := F)) (onTc (τ := τ) (main (F := F))) ⟨m, fun _ => 0, ρ⟩ fun r => ∀ c : Dev nD,
      r.2.mem ((c.tc : Thread nD τ).loc main_v0) = nodeRow (m ((c.tc : Thread nD τ).loc main_arg3)) (word (m ((c.tc : Thread nD τ).loc main_arg0)))
      ∧ r.2.mem ((c.tc : Thread nD τ).loc main_v1) = edgeRow (m ((c.tc : Thread nD τ).loc main_arg4)) (word (m ((c.tc : Thread nD τ).loc main_arg1)))
      ∧ r.2.mem ((c.tc : Thread nD τ).loc main_v2) = nodeRow (m ((c.tc : Thread nD τ).loc main_arg3)) (word (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans (take_row (N := 64) _ _ _ (hin c).1 (by decide) 64#32 63#32 rfl _ _ _ _ _),
        (h c).2.1.trans (take_row (N := 256) _ _ _ (hin c).2.1 (by decide) 256#32 255#32 rfl _ _ _ _ _),
        (h c).2.2.1.trans (take_row (N := 64) _ _ _ (hin c).2.2 (by decide) 64#32 63#32 rfl _ _ _ _ _), (h c).2.2.2⟩)
    (Value.run m ρ)

/-- The same run read against the kernel's memory: where the two memories agree on the arguments, the reference's results are the
    three rows the kernel ends with. -/
theorem looked_up_same (n : (ℓ : Loc Cert.KernelIdeal.nD Cert.KernelIdeal.τ Cert.KernelIdeal.sig) → Buf (Elt F) ℓ) (hin : InRange n)
    (m : (ℓ : Loc nD τ sig) → Buf (Elt F) ℓ) (ρ : Dev nD → PrngReg)
    (hagree : ∀ c : Dev nD, m ((c.tc : Thread nD τ).loc main_arg0) = n (srcLoc c) ∧ m ((c.tc : Thread nD τ).loc main_arg1) = n (edgeLoc c)
      ∧ m ((c.tc : Thread nD τ).loc main_arg2) = n (dstLoc c) ∧ m ((c.tc : Thread nD τ).loc main_arg3) = n (nodeTab c)
      ∧ m ((c.tc : Thread nD τ).loc main_arg4) = n (edgeTab c)) :
    θ_run (defs (F := F)) (onTc (τ := τ) (main (F := F))) ⟨m, fun _ => 0, ρ⟩ fun r => ∀ c : Dev nD,
      r.2.mem ((c.tc : Thread nD τ).loc main_v0) = srcVal n c ∧ r.2.mem ((c.tc : Thread nD τ).loc main_v1) = edgeVal n c
      ∧ r.2.mem ((c.tc : Thread nD τ).loc main_v2) = dstVal n c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (looked_up m ρ fun c => ?_)
  · obtain ⟨h0, h1, h2, h⟩ := h c
    obtain ⟨e0, e1, e2, e3, e4⟩ := hagree c
    rw [e3, e0] at h0
    rw [e4, e1] at h1
    rw [e3, e2] at h2
    exact ⟨h0, h1, h2, h⟩
  · obtain ⟨e0, e1, e2, -, -⟩ := hagree c
    rw [e0, e1, e2]
    exact hin c

end Reference

/-- Over the extended reals the kernel's three results are the reference's. -/
theorem algebraic : Cert.algebraic_KernelIdeal_ReferenceIdeal := fun m ρ m' ρ' hp hagree =>
  have hin := in_range m hp
  ⟨srcVal m, edgeVal m, dstVal m, (θ_run Cert.KernelIdeal.defs _ _).mono
    (fun _ h c => ⟨(h.1 c).1.1, (h.1 c).1.2.1, (h.1 c).1.2.2, (h.1 c).2⟩) (run_main (F := Ideal) m ρ hin),
    looked_up_same (F := Ideal) m hin m' ρ' hagree⟩

/-- At machine floats they are the reference's bit for bit. -/
theorem bitexact : Cert.bitexact_Kernel_Reference := fun m ρ m' ρ' hp hagree =>
  have hin := in_range m hp
  ⟨srcVal m, edgeVal m, dstVal m, (θ_run Cert.KernelIdeal.defs _ _).mono
    (fun _ h c => ⟨(h.1 c).1.1, (h.1 c).1.2.1, (h.1 c).1.2.2, (h.1 c).2⟩) (run_main (F := Bits) m ρ hin),
    looked_up_same (F := Bits) m hin m' ρ' hagree⟩

/-- Everything the statement states. -/
theorem claim : Cert.Claim := ⟨Cert.Kernel.Gen.facts, Cert.KernelIdeal.Gen.facts, Cert.ReferenceIdeal.Gen.facts, Cert.Reference.Gen.facts, Cert.Pre_in_range.Gen.facts,
  frame_kernel, frame_kernelIdeal, frame_referenceIdeal, frame_referenceIdeal_pre, frame_reference, trivial, algebraic, bitexact⟩

end Cert.Proof

end
